-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_v33) = v3 c
          ∧ r.2.mem ((c.tc : Thread Cert.ReferenceIdeal.nD Cert.ReferenceIdeal.τ).loc Cert.ReferenceIdeal.main_v22) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x64 : Shape := ⟨2, ![64, 64]⟩
abbrev S4096x4096 : Shape := ⟨2, ![4096, 4096]⟩
abbrev S1x4096 : Shape := ⟨2, ![1, 4096]⟩
abbrev S_ : Shape := ⟨0, ![]⟩
abbrev S1x512 : Shape := ⟨2, ![1, 512]⟩
abbrev S512x4096 : Shape := ⟨2, ![512, 4096]⟩
abbrev S1x64 : Shape := ⟨2, ![1, 64]⟩
abbrev S64 : Shape := ⟨1, ![64]⟩

abbrev nBuf : Space → Nat
  | .hbm => 18
  | .vmem => 16
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64x64, .f32⟩
  | .hbm, ⟨3, _⟩ => ⟨S64x64, .i1⟩
  | .hbm, ⟨4, _⟩ => ⟨S64x64, .f32⟩
  | .hbm, ⟨5, _⟩ => ⟨S64x64, .f32⟩
  | .hbm, ⟨6, _⟩ => ⟨S4096x4096, .f32⟩
  | .hbm, ⟨7, _⟩ => ⟨S1x4096, .i1⟩
  | .hbm, ⟨8, _⟩ => ⟨S1x4096, .f32⟩
  | .hbm, ⟨9, _⟩ => ⟨S64x64, .i32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S_, .i32⟩
  | .hbm, ⟨15, _⟩ => ⟨S64x64, .i32⟩
  | .hbm, ⟨16, _⟩ => ⟨S64x64, .i1⟩
  | .hbm, ⟨17, _⟩ => ⟨S64x64, .i1⟩
  | .local _ .vmem, ⟨0, _⟩ => ⟨S1x512, .f32⟩
  | .local _ .vmem, ⟨1, _⟩ => ⟨S1x512, .f32⟩
  | .local _ .vmem, ⟨2, _⟩ => ⟨S512x4096, .f32⟩
  | .local _ .vmem, ⟨3, _⟩ => ⟨S512x4096, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S64x64, .i32⟩
  | .local _ .vmem, ⟨10, _⟩ => ⟨S64x64, .f32⟩
  | .local _ .vmem, ⟨11, _⟩ => ⟨S64x64, .f32⟩
  | .local _ .vmem, ⟨12, _⟩ => ⟨S64x64, .f32⟩
  | .local _ .vmem, ⟨13, _⟩ => ⟨S64x64, .f32⟩
  | .local _ .vmem, ⟨14, _⟩ => ⟨S1x4096, .f32⟩
  | .local _ .vmem, ⟨15, _⟩ => ⟨S64x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_v2_0 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v12 : BitVec 1 := Scalar.cmpi .eq arg0 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S64x64 : Shape := ⟨2, ![64, 64]⟩
abbrev S4096x4096 : Shape := ⟨2, ![4096, 4096]⟩
abbrev S_ : Shape := ⟨0, ![]⟩
abbrev S4096 : Shape := ⟨1, ![4096]⟩

abbrev nBuf : Space → Nat
  | .hbm => 58
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64x64, .f32⟩
  | .hbm, ⟨3, _⟩ => ⟨S64x64, .i1⟩
  | .hbm, ⟨4, _⟩ => ⟨S64x64, .f32⟩
  | .hbm, ⟨5, _⟩ => ⟨S64x64, .f32⟩
  | .hbm, ⟨6, _⟩ => ⟨S4096x4096, .f32⟩
  | .hbm, ⟨7, _⟩ => ⟨S_, .f32⟩
  | .hbm, ⟨8, _⟩ => ⟨S64x64, .f32⟩
  | .hbm, ⟨9, _⟩ => ⟨S64x64, .f32⟩
  | .hbm, ⟨10, _⟩ => ⟨S_, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S4096, .f32⟩
  | .hbm, ⟨16, _⟩ => ⟨S4096, .f32⟩
  | .hbm, ⟨17, _⟩ => ⟨S64x64, .f32⟩
  | .hbm, ⟨18, _⟩ => ⟨S64x64, .f32⟩
  | .hbm, ⟨19, _⟩ => ⟨S_, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S_, .f32⟩
  | .hbm, ⟨25, _⟩ => ⟨S64x64, .f32⟩
  | .hbm, ⟨26, _⟩ => ⟨S64x64, .f32⟩
  | .hbm, ⟨27, _⟩ => ⟨S64x64, .i1⟩
  | .hbm, ⟨28, _⟩ => ⟨S_, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S_, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S_, .f32⟩
  | .hbm, ⟨37, _⟩ => ⟨S64x64, .f32⟩
  | .hbm, ⟨38, _⟩ => ⟨S64x64, .i1⟩
  | .hbm, ⟨39, _⟩ => ⟨S_, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S_, .f32⟩
  | .hbm, ⟨44, _⟩ => ⟨S64x64, .f32⟩
  | .hbm, ⟨45, _⟩ => ⟨S64x64, .i1⟩
  | .hbm, ⟨46, _⟩ => ⟨S_, .f32⟩
  | .hbm, ⟨47, _⟩ => ⟨S64x64, .f32⟩
  | .hbm, ⟨48, _⟩ => ⟨S64x64, .f32⟩
  | .hbm, ⟨49, _⟩ => ⟨S64x64, .f32⟩
  | .hbm, ⟨50, _⟩ => ⟨S_, .f32⟩
  | .hbm, ⟨51, _⟩ => ⟨S_, .f32⟩
  | .hbm, ⟨52, _⟩ => ⟨S64x64, .f32⟩
  | .hbm, ⟨53, _⟩ => ⟨S64x64, .f32⟩
  | .hbm, ⟨54, _⟩ => ⟨S_, .f32⟩
  | .hbm, ⟨55, _⟩ => ⟨S_, .f32⟩
  | .hbm, ⟨56, _⟩ => ⟨S64x64, .f32⟩
  | .hbm, ⟨57, _⟩ => ⟨S64x64, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_call2_v0 : Ref sig .tc := ⟨.hbm, 51, rfl⟩
abbrev main_call2_v1 : Ref sig .tc := ⟨.hbm, 52, rfl⟩
abbrev main_v33 : Ref sig .tc := ⟨.hbm, 53, rfl⟩
abbrev main_cst_10 : Ref sig .tc := ⟨.hbm, 54, rfl⟩
abbrev main_call3_v0 : Ref sig .tc := ⟨.hbm, 55, rfl⟩
abbrev main_call3_v1 : Ref sig .tc := ⟨.hbm, 56, rfl⟩
abbrev main_v34 : Ref sig .tc := ⟨.hbm, 57, rfl⟩

abbrev nD : Nat := 1
abbrev τ : Topo := Topo.v7x

variable {F : FTy → Type} [FloatOps F]
-- ==== Proof.Tile.lean ====
/-
  What the kernel's body leaves behind at one grid point, as plain vector expressions of the blocks it reads.

  The body keeps a 1x4096 running row in scratch. At every point it adds one block product to that row (`row_A`, `row_B`,
  `row_C`). At the last point it also copies the row, 64 entries at a time, into the 64 rows of a 64x64 scratch, reads
  that scratch back whole (`grid_read`: it is the row laid out in row-major order, `rowAsGrid`) and computes the five
  output tiles from it (`tiles_C`).
-/
module

public import proofs.«01_k».proof.Proof.Gen.KernelIdeal.Frame
public import Idealize.ShloMosaic.Lib.Pipeline.Value
public import Idealize.ShloMosaic.Lib.Pipeline.ValueKit
public import Idealize.ShloMosaic.Lib.ValueIdx
public import Idealize.ShloMosaic.Lib.Tactic

@[expose] public section

noncomputable section

namespace Cert.KernelIdeal.Tile

open Idealize.ShloMosaic Idealize.ShloMosaic.TcCoe Idealize.ShloMosaic.ValueIdx
open Cert.KernelIdeal Cert.KernelIdeal.Gen

variable {F : FTy → Type} [FloatOps F]

/-- A row of 4096 entries laid out as a 64x64 grid in row-major order: entry (a, b) is the row's entry 64a + b. -/
def rowAsGrid (A : Vec F S1x4096 .f32) : Vec F S64x64 .f32 :=
  fun j => A (ValueIdx.ix2 (0 : Fin 1) ⟨64 * (j 0).val + (j 1).val, by
    have h0 : (j 0).val < 64 := idx2_lt0 j
    have h1 : (j 1).val < 64 := idx2_lt1 j
    omega⟩)

/-- Two reshapes that only drop and restore a leading axis of extent one leave a 1x64 vector as it was. -/
theorem drop_restore (v : Vec F S1x64 .f32) :
    (shapeCast S1x64 (shapeCast S64 v shapeCasts_S1x64_S64) shapeCasts_S64_S1x64 : FVec F S1x64 .f32) = v := by
  funext j
  show v (Shape.reshapeEquiv _ (Shape.reshapeEquiv _ j)) = v j
  rw [Shape.reshapeEquiv_reshapeEquiv, Shape.reshapeEquiv_self]

/-- One copied strip: reading 64 entries of the row `A`, stored whole, from lane `64 r` on and storing them as row `r` of
    the 64x64 scratch puts there exactly the entries `rowAsGrid A` has in that row. -/
theorem strip (a13 : Memref sig .tc .vmem S1x4096 .f32) (A : Vec F S1x4096 .f32) (r o : ℕ) (ho : o = 64 * r)
    (h : ∀ a, (![0, o] : Fin 2 → ℕ) a + S1x64.size a ≤ S1x4096.size a)
    (h' : ∀ a, (![r, 0] : Fin 2 → ℕ) a + S1x64.size a ≤ S64x64.size a)
    (hz : ∀ a, (![0, 0] : Fin 2 → ℕ) a + S1x4096.size a ≤ S1x4096.size a)
    (x : (Rect.unit (s := S64x64) ![r, 0] S1x64.size h').shape.Idx) :
    (shapeCast S1x64 (shapeCast S64
        (a13.view.readCov [(⟨Rect.unit (s := S1x4096) ![0, 0] S1x4096.size hz, A⟩ : View.Piece (Elt F) S1x4096 .f32)]
          (Rect.unit (s := S1x4096) ![0, o] S1x64.size h).toLoadRect)
        shapeCasts_S1x64_S64) shapeCasts_S64_S1x64 : FVec F S1x64 .f32) x
      = rowAsGrid A ((Rect.unit (s := S64x64) ![r, 0] S1x64.size h').emb x) := by
  rw [drop_restore, View.readCov_eq_canon', View.canon_cons_unit_lit' _ _ _ (by decide)]
  unfold rowAsGrid
  refine congrArg A (funext fun a => Fin.ext ?_)
  subst ho
  have h0 : (x 0).val < 1 := (x 0).isLt
  match a with
  | ⟨0, _⟩ => show 0 + 1 * (x 0).val = 0; omega
  | ⟨1, _⟩ => show 64 * r + 1 * (x 1).val = 64 * (r + 1 * (x 0).val) + (0 + 1 * (x 1).val); omega

/-- The 64x64 scratch read back whole, when its stores cover it and each store agrees with `rowAsGrid A` on its own
    part, is `rowAsGrid A`. -/
theorem grid_read (A : Vec F S1x4096 .f32) (a14 : Memref sig .tc .vmem S64x64 .f32) (L : List (View.Piece (Elt F) S64x64 .f32))
    (hz : ∀ a, (![0, 0] : Fin 2 → ℕ) a + S64x64.size a ≤ S64x64.size a)
    (hcov : ∀ y, ∃ p ∈ L, y ∈ p.1.set)
    (hL : ∀ p ∈ L, ∀ x : p.1.shape.Idx, p.2 x = rowAsGrid A (p.1.emb x)) :
    a14.view.readCov L (Rect.unit (s := S64x64) ![0, 0] S64x64.size hz).toLoadRect = rowAsGrid A := by
  rw [View.readCov_eq_canon_ld _ _ _ hcov, View.ld_unit_lit' _ _ (by decide)]
  funext y
  exact View.canon_apply_of_pieces (rowAsGrid A) L hL y (hcov y)

section Points
variable (c : Dev nD) (i : grid0.Coords) (a1 : Memref sig .tc .vmem S1x512 .f32) (h1 : a1.IsWhole)
  (a2 : Memref sig .tc .vmem S512x4096 .f32) (h2 : a2.IsWhole) (a3 : Memref sig .tc .vmem S64x64 .f32) (h3 : a3.IsWhole)
  (a4 : Memref sig .tc .vmem S64x64 .f32) (h4 : a4.IsWhole) (a5 : Memref sig .tc .vmem S64x64 .f32) (h5 : a5.IsWhole)
  (a6 : Memref sig .tc .vmem S64x64 .f32) (h6 : a6.IsWhole) (a7 : Memref sig .tc .vmem S64x64 .f32) (h7 : a7.IsWhole)
  (a8 : Memref sig .tc .vmem S64x64 .i32) (h8 : a8.IsWhole) (a9 : Memref sig .tc .vmem S64x64 .f32) (h9 : a9.IsWhole)
  (a10 : Memref sig .tc .vmem S64x64 .f32) (h10 : a10.IsWhole) (a11 : Memref sig .tc .vmem S64x64 .f32) (h11 : a11.IsWhole)
  (a12 : Memref sig .tc .vmem S64x64 .f32) (h12 : a12.IsWhole) (a13 : Memref sig .tc .vmem S1x4096 .f32) (h13 : a13.IsWhole)
  (a14 : Memref sig .tc .vmem S64x64 .f32) (h14 : a14.IsWhole)
  (x0 : Vec F S1x512 .f32) (x1 : Vec F S512x4096 .f32) (x2 x3 x4 x5 x6 : Vec F S64x64 .f32) (xs : Vec F S1x4096 .f32)

/-- The running row after the first point: the zero row plus that point's product. -/
theorem row_A (hc0 : cond0_0 i) (hc1 : ¬cond0_1 i) :
    sout0_A_0 c i a1 h1 a2 h2 a3 h3 a4 h4 a5 h5 a6 h6 a7 h7 a8 h8 a9 h9 a10 h10 a11 h11 a12 h12 a13 h13 a14 h14 hc0 hc1 x0 x1 x2 x3 x4 x5 x6
      = k0_pay2 k0_pay1 x0 x1 := by
  frame_out

/-- The running row after a middle point: the row found plus that point's product. -/
theorem row_B (hc0 : ¬cond0_0 i) (hc1 : ¬cond0_1 i) :
    sout0_B_0 c i a1 h1 a2 h2 a3 h3 a4 h4 a5 h5 a6 h6 a7 h7 a8 h8 a9 h9 a10 h10 a11 h11 a12 h12 a13 h13 a14 h14 hc0 hc1 x0 x1 x2 x3 x4 x5 x6 xs
      = k0_pay2 xs x0 x1 := by
  frame_out

/-- The running row after the last point: the row found plus that point's product. -/
theorem row_C (hc0 : ¬cond0_0 i) (hc1 : cond0_1 i) :
    sout0_C_0 c i a1 h1 a2 h2 a3 h3 a4 h4 a5 h5 a6 h6 a7 h7 a8 h8 a9 h9 a10 h10 a11 h11 a12 h12 a13 h13 a14 h14 hc0 hc1 x0 x1 x2 x3 x4 x5 x6 xs
      = k0_pay2 xs x0 x1 := by
  frame_out

set_option maxRecDepth 16384 in
set_option maxHeartbeats 1600000 in
/-- The five output tiles of the last point (new spikes as words, activation, threshold, gain, firing rate), from the
    final row laid out as a grid and the blocks read. -/
theorem tiles_C (hc0 : ¬cond0_0 i) (hc1 : cond0_1 i) :
    out0_C_7 c i a1 h1 a2 h2 a3 h3 a4 h4 a5 h5 a6 h6 a7 h7 a8 h8 a9 h9 a10 h10 a11 h11 a12 h12 a13 h13 a14 h14 hc0 hc1 x0 x1 x2 x3 x4 x5 x6 xs
        = k0_pay75 (k0_pay67 x4) (k0_pay68 (rowAsGrid (k0_pay2 xs x0 x1)) x2) x3 x5
    ∧ out0_C_8 c i a1 h1 a2 h2 a3 h3 a4 h4 a5 h5 a6 h6 a7 h7 a8 h8 a9 h9 a10 h10 a11 h11 a12 h12 a13 h13 a14 h14 hc0 hc1 x0 x1 x2 x3 x4 x5 x6 xs
        = k0_pay74 (k0_pay67 x4) (k0_pay68 (rowAsGrid (k0_pay2 xs x0 x1)) x2) x3 x5
    ∧ out0_C_9 c i a1 h1 a2 h2 a3 h3 a4 h4 a5 h5 a6 h6 a7 h7 a8 h8 a9 h9 a10 h10 a11 h11 a12 h12 a13 h13 a14 h14 hc0 hc1 x0 x1 x2 x3 x4 x5 x6 xs
        = k0_pay72 (k0_pay67 x4) (k0_pay68 (rowAsGrid (k0_pay2 xs x0 x1)) x2) x3 x5 x6
    ∧ out0_C_10 c i a1 h1 a2 h2 a3 h3 a4 h4 a5 h5 a6 h6 a7 h7 a8 h8 a9 h9 a10 h10 a11 h11 a12 h12 a13 h13 a14 h14 hc0 hc1 x0 x1 x2 x3 x4 x5 x6 xs
        = k0_pay73 (k0_pay67 x4) (k0_pay68 (rowAsGrid (k0_pay2 xs x0 x1)) x2) x3 x5
    ∧ out0_C_11 c i a1 h1 a2 h2 a3 h3 a4 h4 a5 h5 a6 h6 a7 h7 a8 h8 a9 h9 a10 h10 a11 h11 a12 h12 a13 h13 a14 h14 hc0 hc1 x0 x1 x2 x3 x4 x5 x6 xs
        = k0_pay71 (k0_pay67 x4) (k0_pay68 (rowAsGrid (k0_pay2 xs x0 x1)) x2) x3 x5 x6 := by
  frame_out
  rw [grid_read (k0_pay2 xs x0 x1) a14 _ _ (fun y => View.cover_of_tiledL _ ![1, 64] (by sl_kernel_rfl) y) ?_]
  · exact ⟨rfl, rfl, rfl, rfl, rfl⟩
  iterate 64 refine List.forall_mem_cons.mpr ⟨strip _ _ _ _ (by rfl) (by decide) (by decide) _, ?_⟩
  exact fun p hp => absurd hp List.not_mem_nil

end Points

end Cert.KernelIdeal.Tile

end
-- ==== Proof.RunningRow.lean ====
/-
  The running row after the last grid point, over the extended reals.

  The kernel walks the 4096 previous spikes in eight blocks of 512. Each point multiplies its block of spikes with the
  matching 512 rows of the weight matrix and adds the product to the running row. So after the last point entry `j` of the
  row is the sum over all 4096 neurons `l` of spike `l` times weight `(l, j)` (`row_final`).
-/
module

public import proofs.«01_k».proof.Proof.Tile
public import Idealize.ShloMosaic.Lib.MatmulPlain

@[expose] public section

noncomputable section

namespace Cert.KernelIdeal.RunningRow

open Idealize.ShloMosaic Idealize.ShloMosaic.TcCoe Idealize.SL.Sem
open Cert.KernelIdeal Cert.KernelIdeal.Gen Cert.KernelIdeal.Tile

section Blocks

variable {F : FTy → Type} [FloatOps F]
variable (m : (ℓ : Loc nD τ sig) → Buf (Elt F) ℓ) (c : Dev nD)

/-- A 64x64 vector read in row-major order: entry `l` of 4096 is the entry in row `l / 64` and column `l % 64`. -/
def flat {α : Type} (A : S64x64.Idx → α) (l : Fin 4096) : α :=
  A (ValueIdx.ix2 (⟨l.val / 64, by omega⟩ : Fin 64) (⟨l.val % 64, by omega⟩ : Fin 64))

/-- Reshaping a 64x64 vector to one row of 4096 reads it in row-major order. -/
theorem reshape_row {α : Type} (A : S64x64.Idx → α) (l : Fin 4096) :
    shapeCast S1x4096 A shapeCasts_S64x64_S1x4096 (ValueIdx.ix2 (0 : Fin 1) l) = flat A l := by
  unfold flat
  refine shapeCast_apply _ _ _ _ ?_
  rw [Shape.rowMajor_val_two, Shape.rowMajor_val_two]
  show l.val / 64 * 64 + l.val % 64 = 0 * 4096 + l.val
  omega

/-- The spikes the region finds: the bits of the argument as floats, in one row. -/
theorem entry_spikes :
    V m c main_v1 = uitofp .f32 (shapeCast S1x4096 (m ((c : Thread nD τ).loc main_arg3)) shapeCasts_S64x64_S1x4096) := by
  entry_read
  simp only [hostOps0, List.flatten_cons, List.flatten_nil, List.append_nil]
  after_results_simp <;> rfl

/-- The block index of the spikes and of the weights at each point is the point's own number. -/
theorem idx0 : ∀ t : Fin grid0.N, win0_0.index t 0 = 0 ∧ win0_0.index t 1 = t.val := by decide +kernel
theorem idx1 : ∀ t : Fin grid0.N, win0_1.index t 0 = t.val ∧ win0_1.index t 1 = 0 := by decide +kernel

/-- The spike block of point `t`: its entry `k` is spike `512 t + k`. -/
theorem spikes_block (t : Fin cfg0.N) (k : Fin 512) (h : t.val * 512 + k.val < 4096) :
    iblk m c 0 t (ValueIdx.ix2 (0 : Fin 1) k)
      = flat (uitofp .f32 (m ((c : Thread nD τ).loc main_arg3))) ⟨t.val * 512 + k.val, h⟩ := by
  have e : iblk m c 0 t (ValueIdx.ix2 (0 : Fin 1) k) = V m c main_v1 (ValueIdx.ix2 (0 : Fin 1) (⟨t.val * 512 + k.val, h⟩ : Fin 4096)) := by
    blk_ext [Gen.iblk, Gen.V, idx0 t]
  rw [e, entry_spikes]
  exact congrArg (FloatOps.uitofp .f32)
    (reshape_row (α := BitVec 1) (m ((c : Thread nD τ).loc main_arg3)) ⟨t.val * 512 + k.val, h⟩)

/-- The weight block of point `t`: its row `k` is row `512 t + k` of the matrix. -/
theorem weights_block (t : Fin cfg0.N) (k : Fin 512) (j : Fin 4096) (h : t.val * 512 + k.val < 4096) :
    iblk m c 1 t (ValueIdx.ix2 k j)
      = m ((c : Thread nD τ).loc main_arg6) (ValueIdx.ix2 (⟨t.val * 512 + k.val, h⟩ : Fin 4096) j) := by
  rw [← V_main_arg6 m c]
  blk_ext [Gen.iblk, Gen.V, idx1 t]

end Blocks

section Sum

variable (m : (ℓ : Loc nD τ sig) → Buf (Elt Ideal) ℓ) (c : Dev nD)

/-- The product of a row of 512 spikes with column `j` of 512 rows of weights. -/
def dotCol (x0 : Vec Ideal S1x512 .f32) (x1 : Vec Ideal S512x4096 .f32) (j : Fin 4096) : EReal :=
  ∑ k : Fin 512, x0 (ValueIdx.ix2 (0 : Fin 1) k) * x1 (ValueIdx.ix2 k j)

/-- One step of the running row, entry by entry: the entry found plus the product of the spike block with the column. -/
theorem step_apply (xs : Vec Ideal S1x4096 .f32) (x0 : Vec Ideal S1x512 .f32) (x1 : Vec Ideal S512x4096 .f32) (j : Fin 4096) :
    k0_pay2 xs x0 x1 (ValueIdx.ix2 (0 : Fin 1) j)
      = xs (ValueIdx.ix2 (0 : Fin 1) j) + dotCol x0 x1 j := by
  unfold k0_pay2
  simp only [shapeCast_self]
  show xs _ + _ = _
  refine congrArg _ ?_
  refine (Ideal.matmul_plain_apply none x0 x1 (constant S1x4096 .f32 0x00000000#32) 0 j).trans ?_
  show Ideal.ofBits .f32 0x00000000#32 + _ = _
  rw [Ideal.ofBits_zero_f32, zero_add]
  rfl

/-- Entry `j` of the running row after point `n`. -/
def rowAt (n : ℕ) (hn : n < cfg0.N) (j : Fin 4096) : EReal := (outsAt0 m c n hn).2.2.2.2.2 (ValueIdx.ix2 (0 : Fin 1) j)

/-- What point `t` adds to entry `j` of the running row. -/
def termAt (t : Fin cfg0.N) (j : Fin 4096) : EReal := dotCol (iblk m c 0 t) (iblk m c 1 t) j

theorem rowAt_first (t : Fin cfg0.N) (h : t.val % 8 = 0) (j : Fin 4096) :
    rowAt m c t.val t.isLt j = 0 + termAt m c t j := by
  unfold rowAt
  rw [outsAt0_A m c t h (by omega)]
  dsimp only
  rw [row_A]
  refine (step_apply _ _ _ j).trans ?_
  refine congrArg (· + _) ?_
  exact Ideal.ofBits_zero_f32

theorem rowAt_next (t : Fin cfg0.N) (h : ¬t.val % 8 = 0) (j : Fin 4096) :
    rowAt m c t.val t.isLt j
      = rowAt m c (t.val - 1) (Nat.lt_of_le_of_lt (Nat.sub_le _ _) t.isLt) j + termAt m c t j := by
  unfold rowAt
  by_cases h1 : t.val % 8 = 7
  · rw [outsAt0_C m c t h h1]
    dsimp only
    rw [row_C]
    exact step_apply _ _ _ j
  · rw [outsAt0_B m c t h h1]
    dsimp only
    rw [row_B]
    exact step_apply _ _ _ j

/-- After the last point entry `j` of the running row is the whole product: the sum over all 4096 neurons `l` of spike `l`
    times weight `(l, j)`. -/
theorem row_final (j : Fin 4096) :
    rowAt m c t0_7.val t0_7.isLt j
      = ∑ l : Fin 4096, flat (uitofp (F := Ideal) .f32 (m ((c : Thread nD τ).loc main_arg3))) l
          * m ((c : Thread nD τ).loc main_arg6) (ValueIdx.ix2 l j) := by
  rw [Pipeline.eq_sum_fin_of_reset_step_apply_last (rowAt m c) 8 (fun _ => 0) (termAt m c) (rowAt_first m c)
    (rowAt_next m c) (le_of_eq N_0) t0_7 (by rfl) j, zero_add]
  refine Fin.sum_mul_add_congr (fun t k hl => ?_) (by rfl)
  rw [spikes_block m c t k hl, weights_block m c t k j hl]

end Sum

end Cert.KernelIdeal.RunningRow

end
-- ==== Proof.KernelResults.lean ====
/-
  What the five result buffers of the kernel program hold after a run, at any float values.

  Only the last grid point writes the output arrays back, and its blocks are the whole arrays. So each array holds the tile
  that point computed (`tiles_last`, `final_7` to `final_11`). The spike result is stored as 32-bit words and turned back
  into bits on the host by comparing each word with zero (`spikes_back`). `run` puts the five results together.
-/
module

public import proofs.«01_k».proof.Proof.RunningRow

@[expose] public section

noncomputable section

namespace Cert.KernelIdeal.Results

open Idealize.ShloMosaic Idealize.ShloMosaic.TcCoe Idealize.SL.Sem
open Cert.KernelIdeal Cert.KernelIdeal.Gen Cert.KernelIdeal.Tile

variable {F : FTy → Type} [FloatOps F]
variable (m : (ℓ : Loc nD τ sig) → Buf (Elt F) ℓ) (ρ : Dev nD → PrngReg) (c : Dev nD)

/-- The block index of each of the five 64x64 inputs is (0, 0) at every point. -/
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel

/-- At every point the block of the input `x` is the whole array. -/
theorem block_x (t : Fin cfg0.N) : iblk m c 2 t = m ((c : Thread nD τ).loc main_arg0) := by
  rw [← V_main_arg0 m c]; funext y; blk_ext [Gen.iblk, Gen.V, idx2 t]
/-- At every point the block of the old activation is the whole array. -/
theorem block_act (t : Fin cfg0.N) : iblk m c 3 t = m ((c : Thread nD τ).loc main_arg1) := by
  rw [← V_main_arg1 m c]; funext y; blk_ext [Gen.iblk, Gen.V, idx3 t]
/-- At every point the block of the old gain is the whole array. -/
theorem block_gain (t : Fin cfg0.N) : iblk m c 4 t = m ((c : Thread nD τ).loc main_arg2) := by
  rw [← V_main_arg2 m c]; funext y; blk_ext [Gen.iblk, Gen.V, idx4 t]
/-- At every point the block of the old threshold is the whole array. -/
theorem block_thr (t : Fin cfg0.N) : iblk m c 5 t = m ((c : Thread nD τ).loc main_arg4) := by
  rw [← V_main_arg4 m c]; funext y; blk_ext [Gen.iblk, Gen.V, idx5 t]
/-- At every point the block of the old firing rate is the whole array. -/
theorem block_freq (t : Fin cfg0.N) : iblk m c 6 t = m ((c : Thread nD τ).loc main_arg5) := by
  rw [← V_main_arg5 m c]; funext y; blk_ext [Gen.iblk, Gen.V, idx6 t]

/-- The running row after the last point, laid out as a 64x64 grid. -/
def lateral : Vec F S64x64 .f32 := rowAsGrid (outsAt0 m c t0_7.val t0_7.isLt).2.2.2.2.2

/-- The new gain. -/
def gain : Vec F S64x64 .f32 := k0_pay67 (m ((c : Thread nD τ).loc main_arg2))
/-- The input plus the lateral drive. -/
def drive : Vec F S64x64 .f32 := k0_pay68 (lateral m c) (m ((c : Thread nD τ).loc main_arg0))
/-- The spikes as words. -/
def res7 : Vec F S64x64 .i32 :=
  k0_pay75 (gain m c) (drive m c) (m ((c : Thread nD τ).loc main_arg1)) (m ((c : Thread nD τ).loc main_arg4))
/-- The spikes as bits. -/
def resSpike : Vec F S64x64 .i1 :=
  k0_pay70 (gain m c) (drive m c) (m ((c : Thread nD τ).loc main_arg1)) (m ((c : Thread nD τ).loc main_arg4))
/-- The activation after the reset of the neurons that fired. -/
def resAct : Vec F S64x64 .f32 :=
  k0_pay74 (gain m c) (drive m c) (m ((c : Thread nD τ).loc main_arg1)) (m ((c : Thread nD τ).loc main_arg4))
/-- The adapted threshold. -/
def resThr : Vec F S64x64 .f32 :=
  k0_pay72 (gain m c) (drive m c) (m ((c : Thread nD τ).loc main_arg1)) (m ((c : Thread nD τ).loc main_arg4))
    (m ((c : Thread nD τ).loc main_arg5))
/-- The gain after the reset of the neurons that fired. -/
def resGain : Vec F S64x64 .f32 :=
  k0_pay73 (gain m c) (drive m c) (m ((c : Thread nD τ).loc main_arg1)) (m ((c : Thread nD τ).loc main_arg4))
/-- The new firing rate. -/
def resFreq : Vec F S64x64 .f32 :=
  k0_pay71 (gain m c) (drive m c) (m ((c : Thread nD τ).loc main_arg1)) (m ((c : Thread nD τ).loc main_arg4))
    (m ((c : Thread nD τ).loc main_arg5))

/-- The five tiles the last point leaves, as functions of the arguments and of the final row. -/
theorem tiles_last :
    (outsAt0 m c t0_7.val t0_7.isLt).1 = res7 m c
    ∧ (outsAt0 m c t0_7.val t0_7.isLt).2.1 = resAct m c
    ∧ (outsAt0 m c t0_7.val t0_7.isLt).2.2.1 = resThr m c
    ∧ (outsAt0 m c t0_7.val t0_7.isLt).2.2.2.1 = resGain m c
    ∧ (outsAt0 m c t0_7.val t0_7.isLt).2.2.2.2.1 = resFreq m c := by
  unfold res7 resAct resThr resGain resFreq drive lateral gain
  rw [outsAt0_C m c t0_7 (by decide) (by decide)]
  dsimp only
  rw [row_C]
  simp only [block_x m c t0_7, block_act m c t0_7, block_gain m c t0_7, block_thr m c t0_7, block_freq m c t0_7]
  exact tiles_C ..

/-- The word array ends holding the spikes as words. -/
theorem final_7 : (dats m 0 c).arrAt 7 cfg0.N = res7 m c := by
  refine (dats m 0 c).arrAt_eq_of_after_last 7 t0_7 (by decide +kernel) _ fun j => ?_
  blk_simp
  rw [after0_7, (tiles_last m c).1]

/-- The activation array ends holding the last point's activation tile. -/
theorem final_8 : (dats m 0 c).arrAt 8 cfg0.N = resAct m c := by
  refine (dats m 0 c).arrAt_eq_of_after_last 8 t0_7 (by decide +kernel) _ fun j => ?_
  blk_simp
  rw [after0_8, (tiles_last m c).2.1]

/-- The threshold array ends holding the last point's threshold tile. -/
theorem final_9 : (dats m 0 c).arrAt 9 cfg0.N = resThr m c := by
  refine (dats m 0 c).arrAt_eq_of_after_last 9 t0_7 (by decide +kernel) _ fun j => ?_
  blk_simp
  rw [after0_9, (tiles_last m c).2.2.1]

/-- The gain array ends holding the last point's gain tile. -/
theorem final_10 : (dats m 0 c).arrAt 10 cfg0.N = resGain m c := by
  refine (dats m 0 c).arrAt_eq_of_after_last 10 t0_7 (by decide +kernel) _ fun j => ?_
  blk_simp
  rw [after0_10, (tiles_last m c).2.2.2.1]

/-- The firing rate array ends holding the last point's firing rate tile. -/
theorem final_11 : (dats m 0 c).arrAt 11 cfg0.N = resFreq m c := by
  refine (dats m 0 c).arrAt_eq_of_after_last 11 t0_7 (by decide +kernel) _ fun j => ?_
  blk_simp
  rw [after0_11, (tiles_last m c).2.2.2.2]

/-- A bit extended to a 32-bit word differs from zero exactly when the bit is set. -/
theorem bit_word_bit (b : BitVec 1) : Scalar.cmpi .ne (b.setWidth 32) 0#32 = b := by
  revert b; decide

/-- After the region the host compares the spike words with zero: the result is the spikes as bits. -/
theorem spikes_back :
    Pipeline.afterTail₀ cfgs (dats m) 0 (V0 m) [hostOps1] c main_v2_0 = resSpike m c := by
  unfold Pipeline.afterTail₀
  have e := Pipeline.withArrays_arr (cfgs 0).spec launch0.win.arr_inj c (V0 m c) (fun w => (dats m 0 c).arrAt w (cfgs 0).N) 7
  simp only [hostOps1, List.flatten_cons, List.flatten_nil, List.append_nil, StableHlo.TRef.unary,
    StableHlo.TRef.binary, StableHlo.TRef.nullary, StableHlo.TRef.toBuf, StableHlo.TRef.ofBuf, cast_eq]
  after_results_simp
  refine (congrArg (fun A => cmpi .ne A (broadcastInDim S64x64 ![] bcast_S_S64x64 (constantI S_ 32 0#32))) (e.trans (final_7 m c))).trans ?_
  funext j
  exact bit_word_bit (resSpike m c j)

/-- Every run of the kernel program ends with the five results and leaves the seven arguments as they were. -/
theorem run : θ_run defs (onTc (τ := τ) (main (F := F))) ⟨m, fun _ => 0, ρ⟩ fun r => ∀ c : Dev nD,
      (r.2.mem ((c : Thread nD τ).loc main_v2_0) = resSpike m c
      ∧ r.2.mem ((c : Thread nD τ).loc main_v2_1) = resAct m c
      ∧ r.2.mem ((c : Thread nD τ).loc main_v2_2) = resThr m c
      ∧ r.2.mem ((c : Thread nD τ).loc main_v2_3) = resGain m c
      ∧ r.2.mem ((c : Thread nD τ).loc main_v2_4) = resFreq m c) :=
  (θ_run defs _ _).mono (fun _ h c =>
    ⟨((h c).2 main_v2_0 (Pipeline.mem_restRefs_of main_v2_0 (by decide) (by decide))).trans (spikes_back m c),
      ((h c).1 8).trans (final_8 m c), ((h c).1 9).trans (final_9 m c), ((h c).1 10).trans (final_10 m c),
      ((h c).1 11).trans (final_11 m c)⟩) (run_main m ρ)

end Cert.KernelIdeal.Results

end
-- ==== Proof.LateralProduct.lean ====
/-
  The lateral drive of the kernel is the one the reference computes, over the extended reals.

  The reference flattens the spikes, takes one product with the whole 4096x4096 matrix and reshapes the result to 64x64.
  The kernel adds eight block products and copies the row into a 64x64 grid. Both have at (a, b) the sum over all neurons
  `l` of spike `l` times weight `(l, 64 a + b)`.
-/
module

public import proofs.«01_k».proof.Proof.KernelResults
public import proofs.«01_k».proof.Proof.Gen.ReferenceIdeal.Run
public import Idealize.ShloMosaic.Lib.Pointwise.Contract

@[expose] public section

noncomputable section

namespace Cert.LateralProduct

open Idealize.ShloMosaic Idealize.ShloMosaic.TcCoe Idealize.SL.Sem
open Cert.KernelIdeal.RunningRow (flat)

/-- Flattening a 64x64 vector reads it in row-major order. -/
theorem reshape_flat {α : Type} (A : Cert.ReferenceIdeal.S64x64.Idx → α) (l : Fin 4096) :
    shapeCast Cert.ReferenceIdeal.S4096 A Cert.ReferenceIdeal.Gen.facts.shapeCasts_S64x64_S4096 (ValueIdx.ix1 l) = flat A l := by
  unfold flat
  refine shapeCast_apply _ _ _ _ ?_
  rw [Shape.rowMajor_val_two, Shape.rowMajor_val_one]
  show l.val / 64 * 64 + l.val % 64 = l.val
  omega

/-- The reference's product, entry by entry: the sum over all 4096 neurons. -/
theorem product_apply (v : FVec Ideal Cert.ReferenceIdeal.S4096 .f32) (w : FVec Ideal Cert.ReferenceIdeal.S4096x4096 .f32) (j : Fin 4096) :
    Host.dotGeneral (F := Ideal) Cert.ReferenceIdeal.dot_S4096_S4096x4096_S4096_0_0_n_1_n_n none v w (ValueIdx.ix1 j)
      = ∑ l : Fin 4096, v (ValueIdx.ix1 l) * w (ValueIdx.ix2 l j) := by
  simp only [Host.dotGeneral]
  rw [Ideal.dotGeneral_apply, DotDims.sum_contr₁ _ (a := 0) (by rfl) (K := 4096) (by rfl)]
  refine Finset.sum_congr rfl fun l _ => congrArg₂ (· * ·) (congrArg v ?_) (congrArg w ?_)
  · funext a; apply Fin.ext
    match a with
    | ⟨0, _⟩ => rfl
  · funext a; apply Fin.ext
    match a with
    | ⟨0, _⟩ => rfl
    | ⟨1, _⟩ => rfl

open Cert.KernelIdeal in
/-- The kernel's lateral drive is the reference's: flatten the spikes, multiply by the weights, lay out as a grid. -/
theorem lateral_eq (m : (ℓ : Loc nD τ sig) → Buf (Elt Ideal) ℓ) (c : Dev nD) :
    Results.lateral m c
      = shapeCast Cert.ReferenceIdeal.S64x64 (Host.dotGeneral (F := Ideal) (φ₁ := .f32) (φ₂ := .f32) Cert.ReferenceIdeal.dot_S4096_S4096x4096_S4096_0_0_n_1_n_n none
          (shapeCast Cert.ReferenceIdeal.S4096 (uitofp .f32 (m ((c : Thread nD τ).loc main_arg3))) Cert.ReferenceIdeal.Gen.facts.shapeCasts_S64x64_S4096)
          (m ((c : Thread nD τ).loc main_arg6))) Cert.ReferenceIdeal.Gen.facts.shapeCasts_S4096_S64x64 := by
  funext j
  have h0 : (j 0).val < 64 := (j 0).isLt
  have h1 : (j 1).val < 64 := (j 1).isLt
  rw [shapeCast_apply _ _ j (ValueIdx.ix1 (⟨64 * (j 0).val + (j 1).val, by omega⟩ : Fin 4096)) (by
    rw [Shape.rowMajor_val_one, Shape.rowMajor_val_two]
    show 64 * (j 0).val + (j 1).val = (j 0).val * 64 + (j 1).val
    omega), product_apply]
  refine (RunningRow.row_final m c ⟨64 * (j 0).val + (j 1).val, by omega⟩).trans ?_
  exact Finset.sum_congr rfl fun l _ => congrArg (· * _) (reshape_flat _ l).symm

end Cert.LateralProduct

end
-- ==== Proof.Agreement.lean ====
/-
  The kernel and the reference end with equal results over the extended reals, from memories that agree on the arguments.

  The lateral drive is equal by `LateralProduct.lateral_eq`. Everything after it is the same elementwise arithmetic on both
  sides. The one difference is how a spike bit becomes a float: the kernel widens it to a word first.
-/
module

public import proofs.«01_k».proof.Proof.LateralProduct
public import Idealize.ShloMosaic.Lib.KernelVsHost

@[expose] public section

noncomputable section

namespace Cert.Agreement

open Idealize.ShloMosaic Idealize.ShloMosaic.TcCoe Idealize.SL.Sem
open Cert.KernelIdeal.Results Cert.KernelIdeal.Gen

/-- From memories equal on the seven arguments, every run of the reference ends with the kernel's five results. -/
theorem reference_run (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (g' : Dev Cert.ReferenceIdeal.nD → PrngReg)
    (h : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v16) = resSpike m c
      ∧ r.2.mem ((c.tc : Thread Cert.ReferenceIdeal.nD Cert.ReferenceIdeal.τ).loc Cert.ReferenceIdeal.main_v34) = resAct m c
      ∧ r.2.mem ((c.tc : Thread Cert.ReferenceIdeal.nD Cert.ReferenceIdeal.τ).loc Cert.ReferenceIdeal.main_v32) = resThr m c
      ∧ r.2.mem ((c.tc : Thread Cert.ReferenceIdeal.nD Cert.ReferenceIdeal.τ).loc Cert.ReferenceIdeal.main_v33) = resGain m c
      ∧ r.2.mem ((c.tc : Thread Cert.ReferenceIdeal.nD Cert.ReferenceIdeal.τ).loc Cert.ReferenceIdeal.main_v22) = resFreq m c) := by
  refine (θ_run Cert.ReferenceIdeal.defs _ _).mono (fun r hr c => ?_) (Cert.ReferenceIdeal.Value.run (F := Ideal) m' g')
  obtain ⟨r0, r1, r2, r3, r4, -⟩ := hr c
  obtain ⟨e0, e1, e2, e3, e4, e5, e6⟩ := h c
  rw [r0, r1, r2, r3, r4, e0, e1, e2, e3, e4, e5, e6]
  unfold resSpike resAct resThr resGain resFreq drive gain k0_pay74 k0_pay73 k0_pay72 k0_pay71 k0_pay70 k0_pay69 k0_pay68 k0_pay67
  simp only [LateralProduct.lateral_eq, sitofp_extui_eq_uitofp]
  exact ⟨rfl, rfl, rfl, rfl, rfl⟩

end Cert.Agreement

end
-- ==== Proof.lean ====
/-
  The certificate of one step of a spiking-neuron ensemble with lateral connections: three frames, `preserves` and the
  value claim.

  `Proof/Tile.lean`            what the kernel's body leaves behind at one grid point
  `Proof/RunningRow.lean`      the running row after the last point is the sum over all 4096 neurons
  `Proof/KernelResults.lean`   what the five result buffers hold after a run
  `Proof/LateralProduct.lean`  the kernel's lateral drive is the reference's product
  `Proof/Agreement.lean`       the reference ends with the kernel's five results
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agreement
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference leaves its seven arguments unchanged and every semaphore counter at zero (it declares no semaphore). -/
theorem frame_reference : Cert.quiescent_ReferenceIdeal := fun m g _ =>
  (θ_run Cert.ReferenceIdeal.defs _ _).mono
    (fun r h => ⟨fun c => (h c).2.2.2.2.2, sem_eq_zero_of_no_sems (by decide) r.2⟩)
    (Cert.ReferenceIdeal.Value.run (F := Ideal) m g)

/-- The kernel and the reference end with the same five results over the extended reals, their arguments unchanged. -/
theorem same_results : Cert.algebraic_KernelIdeal_ReferenceIdeal := fun m g m' g' _ h =>
  ⟨fun c => Cert.KernelIdeal.Results.resSpike m c, fun c => Cert.KernelIdeal.Results.resAct m c,
    fun c => Cert.KernelIdeal.Results.resThr m c, fun c => Cert.KernelIdeal.Results.resGain m c,
    fun c => Cert.KernelIdeal.Results.resFreq m c,
    (θ_run Cert.KernelIdeal.defs _ _).mono
      (fun _ hr c => ⟨(hr.1 c).1, (hr.1 c).2.1, (hr.1 c).2.2.1, (hr.1 c).2.2.2.1, (hr.1 c).2.2.2.2, hr.2 c⟩)
      (θ_run_and (Cert.KernelIdeal.Results.run m g) (Cert.KernelIdeal.Gen.unchanged m g)),
    (θ_run Cert.ReferenceIdeal.defs _ _).mono
      (fun _ hr c => ⟨(hr.1 c).1, (hr.1 c).2.1, (hr.1 c).2.2.1, (hr.1 c).2.2.2.1, (hr.1 c).2.2.2.2, (hr.2 c).2.2.2.2.2⟩)
      (θ_run_and (Cert.Agreement.reference_run m m' g' h) (Cert.ReferenceIdeal.Value.run (F := Ideal) m' g'))⟩

/-- All five claims: the three frames, the ideal pass preserving the kernel (it rewrote nothing), and the equal results. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, frame_reference, trivial, same_results⟩

end Cert.Proof

end
